-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v92_0)) (v1 : (c : Dev Cert.KernelIdeal.nD) → Buf (Elt Ideal) ((c.tc : Thread Cert.KernelIdeal.nD Cert.KernelIdeal.τ).loc Cert.KernelIdeal.main_v92_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92_0) = v0 c
          ∧ r.2.mem ((c.tc : Thread Cert.KernelIdeal.nD Cert.KernelIdeal.τ).loc Cert.KernelIdeal.main_v92_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x1536 : Shape := ⟨2, ![2048, 1536]⟩
abbrev S2048 : Shape := ⟨1, ![2048]⟩
abbrev S1536x2048 : Shape := ⟨2, ![1536, 2048]⟩
abbrev S2048x128 : Shape := ⟨2, ![2048, 128]⟩
abbrev S128 : Shape := ⟨1, ![128]⟩
abbrev S2048x16 : Shape := ⟨2, ![2048, 16]⟩
abbrev S2048x64 : Shape := ⟨2, ![2048, 64]⟩
abbrev S128x128 : Shape := ⟨2, ![128, 128]⟩
abbrev S2048x16x128 : Shape := ⟨3, ![2048, 16, 128]⟩
abbrev S_ : Shape := ⟨0, ![]⟩
abbrev S2048x1 : Shape := ⟨2, ![2048, 1]⟩
abbrev S1x128 : Shape := ⟨2, ![1, 128]⟩
abbrev S2048x2 : Shape := ⟨2, ![2048, 2]⟩
abbrev S2048x32 : Shape := ⟨2, ![2048, 32]⟩
abbrev S2048x16x64 : Shape := ⟨3, ![2048, 16, 64]⟩
abbrev S2048x1x32 : Shape := ⟨3, ![2048, 1, 32]⟩
abbrev S2048x16x32 : Shape := ⟨3, ![2048, 16, 32]⟩
abbrev S2048x16x2048 : Shape := ⟨3, ![2048, 16, 2048]⟩
abbrev S1x2048 : Shape := ⟨2, ![1, 2048]⟩
abbrev S2048x512 : Shape := ⟨2, ![2048, 512]⟩
abbrev S128x2048 : Shape := ⟨2, ![128, 2048]⟩
abbrev S128x512 : Shape := ⟨2, ![128, 512]⟩
abbrev S128x2047 : Shape := ⟨2, ![128, 2047]⟩
abbrev S128x1 : Shape := ⟨2, ![128, 1]⟩
abbrev S128x2046 : Shape := ⟨2, ![128, 2046]⟩
abbrev S128x2 : Shape := ⟨2, ![128, 2]⟩
abbrev S128x2044 : Shape := ⟨2, ![128, 2044]⟩
abbrev S128x4 : Shape := ⟨2, ![128, 4]⟩
abbrev S128x2040 : Shape := ⟨2, ![128, 2040]⟩
abbrev S128x8 : Shape := ⟨2, ![128, 8]⟩
abbrev S128x2032 : Shape := ⟨2, ![128, 2032]⟩
abbrev S128x16 : Shape := ⟨2, ![128, 16]⟩
abbrev S128x2016 : Shape := ⟨2, ![128, 2016]⟩
abbrev S128x32 : Shape := ⟨2, ![128, 32]⟩
abbrev S128x1984 : Shape := ⟨2, ![128, 1984]⟩
abbrev S128x64 : Shape := ⟨2, ![128, 64]⟩
abbrev S128x1920 : Shape := ⟨2, ![128, 1920]⟩
abbrev S128x1792 : Shape := ⟨2, ![128, 1792]⟩
abbrev S128x256 : Shape := ⟨2, ![128, 256]⟩
abbrev S128x1536 : Shape := ⟨2, ![128, 1536]⟩
abbrev S128x1024 : Shape := ⟨2, ![128, 1024]⟩

abbrev nBuf : Space → Nat
  | .hbm => 121
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x1536, .f32⟩
  | .hbm, ⟨2, _⟩ => ⟨S2048, .i32⟩
  | .hbm, ⟨3, _⟩ => ⟨S1536x2048, .f32⟩
  | .hbm, ⟨4, _⟩ => ⟨S2048x128, .f32⟩
  | .hbm, ⟨5, _⟩ => ⟨S128, .f32⟩
  | .hbm, ⟨6, _⟩ => ⟨S128, .f32⟩
  | .hbm, ⟨7, _⟩ => ⟨S2048x16, .f32⟩
  | .hbm, ⟨8, _⟩ => ⟨S2048x64, .f32⟩
  | .hbm, ⟨9, _⟩ => ⟨S128x128, .f32⟩
  | .hbm, ⟨10, _⟩ => ⟨S2048x2048, .f32⟩
  | .hbm, ⟨11, _⟩ => ⟨S2048x16x128, .f32⟩
  | .hbm, ⟨12, _⟩ => ⟨S2048x128, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x128, .f32⟩
  | .hbm, ⟨35, _⟩ => ⟨S2048x128, .f32⟩
  | .hbm, ⟨36, _⟩ => ⟨S1x128, .f32⟩
  | .hbm, ⟨37, _⟩ => ⟨S2048x128, .f32⟩
  | .hbm, ⟨38, _⟩ => ⟨S2048x128, .f32⟩
  | .hbm, ⟨39, _⟩ => ⟨S1x128, .f32⟩
  | .hbm, ⟨40, _⟩ => ⟨S2048x128, .f32⟩
  | .hbm, ⟨41, _⟩ => ⟨S2048x128, .f32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S2048x1, .i32⟩
  | .hbm, ⟨50, _⟩ => ⟨S_, .i32⟩
  | .hbm, ⟨51, _⟩ => ⟨S2048x1, .i32⟩
  | .hbm, ⟨52, _⟩ => ⟨S2048x2, .i32⟩
  | .hbm, ⟨53, _⟩ => ⟨S2048x32, .f32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .i32⟩
  | .hbm, ⟨61, _⟩ => ⟨S2048x1, .i32⟩
  | .hbm, ⟨62, _⟩ => ⟨S_, .i32⟩
  | .hbm, ⟨63, _⟩ => ⟨S2048x1, .i32⟩
  | .hbm, ⟨64, _⟩ => ⟨S2048x2, .i32⟩
  | .hbm, ⟨65, _⟩ => ⟨S2048x32, .f32⟩
  | .hbm, ⟨66, _⟩ => ⟨S2048x16x64, .f32⟩
  | .hbm, ⟨67, _⟩ => ⟨S2048x1x32, .f32⟩
  | .hbm, ⟨68, _⟩ => ⟨S2048x1x32, .f32⟩
  | .hbm, ⟨69, _⟩ => ⟨S2048x16x32, .f32⟩
  | .hbm, ⟨70, _⟩ => ⟨S2048x16x32, .f32⟩
  | .hbm, ⟨71, _⟩ => ⟨S2048x16x32, .f32⟩
  | .hbm, ⟨72, _⟩ => ⟨S2048x16x32, .f32⟩
  | .hbm, ⟨73, _⟩ => ⟨S2048x16x32, .f32⟩
  | .hbm, ⟨74, _⟩ => ⟨S2048x16x32, .f32⟩
  | .hbm, ⟨75, _⟩ => ⟨S2048x16x32, .f32⟩
  | .hbm, ⟨76, _⟩ => ⟨S2048x16x32, .f32⟩
  | .hbm, ⟨77, _⟩ => ⟨S2048x16x32, .f32⟩
  | .hbm, ⟨78, _⟩ => ⟨S2048x16x32, .f32⟩
  | .hbm, ⟨79, _⟩ => ⟨S2048x16x32, .f32⟩
  | .hbm, ⟨80, _⟩ => ⟨S2048x16x32, .f32⟩
  | .hbm, ⟨81, _⟩ => ⟨S2048x16x64, .f32⟩
  | .hbm, ⟨82, _⟩ => ⟨S2048x16x64, .f32⟩
  | .hbm, ⟨83, _⟩ => ⟨S2048x16x128, .f32⟩
  | .hbm, ⟨84, _⟩ => ⟨S2048x64, .f32⟩
  | .hbm, ⟨85, _⟩ => ⟨S2048x32, .f32⟩
  | .hbm, ⟨86, _⟩ => ⟨S2048x32, .f32⟩
  | .hbm, ⟨87, _⟩ => ⟨S2048x32, .f32⟩
  | .hbm, ⟨88, _⟩ => ⟨S2048x32, .f32⟩
  | .hbm, ⟨89, _⟩ => ⟨S2048x32, .f32⟩
  | .hbm, ⟨90, _⟩ => ⟨S2048x32, .f32⟩
  | .hbm, ⟨91, _⟩ => ⟨S2048x32, .f32⟩
  | .hbm, ⟨92, _⟩ => ⟨S2048x32, .f32⟩
  | .hbm, ⟨93, _⟩ => ⟨S2048x64, .f32⟩
  | .hbm, ⟨94, _⟩ => ⟨S2048x64, .f32⟩
  | .hbm, ⟨95, _⟩ => ⟨S2048x128, .f32⟩
  | .hbm, ⟨96, _⟩ => ⟨S2048x16x128, .f32⟩
  | .hbm, ⟨97, _⟩ => ⟨S2048x128, .f32⟩
  | .hbm, ⟨98, _⟩ => ⟨S2048x16, .f32⟩
  | .hbm, ⟨99, _⟩ => ⟨S_, .f32⟩
  | .hbm, ⟨100, _⟩ => ⟨S2048x16, .f32⟩
  | .hbm, ⟨101, _⟩ => ⟨S2048x16, .f32⟩
  | .hbm, ⟨102, _⟩ => ⟨S_, .f32⟩
  | .hbm, ⟨103, _⟩ => ⟨S2048x16, .f32⟩
  | .hbm, ⟨104, _⟩ => ⟨S2048x16, .f32⟩
  | .hbm, ⟨105, _⟩ => ⟨S2048x16x2048, .f32⟩
  | .hbm, ⟨106, _⟩ => ⟨S_, .f32⟩
  | .hbm, ⟨107, _⟩ => ⟨S2048x16x2048, .f32⟩
  | .hbm, ⟨108, _⟩ => ⟨S2048x16x2048, .f32⟩
  | .hbm, ⟨109, _⟩ => ⟨S2048x2048, .f32⟩
  | .hbm, ⟨110, _⟩ => ⟨S2048x1, .i32⟩
  | .hbm, ⟨111, _⟩ => ⟨S2048, .i32⟩
  | .hbm, ⟨112, _⟩ => ⟨S1x2048, .i32⟩
  | .hbm, ⟨113, _⟩ => ⟨S2048x2048, .i32⟩
  | .hbm, ⟨114, _⟩ => ⟨S2048x2048, .i32⟩
  | .hbm, ⟨115, _⟩ => ⟨S2048x2048, .i1⟩
  | .hbm, ⟨116, _⟩ => ⟨S_, .f32⟩
  | .hbm, ⟨117, _⟩ => ⟨S2048x2048, .f32⟩
  | .hbm, ⟨118, _⟩ => ⟨S2048x2048, .f32⟩
  | .hbm, ⟨119, _⟩ => ⟨S2048x512, .f32⟩
  | .hbm, ⟨120, _⟩ => ⟨S2048x512, .i32⟩
  | .local _ .vmem, ⟨0, _⟩ => ⟨S128x2048, .f32⟩
  | .local _ .vmem, ⟨1, _⟩ => ⟨S128x2048, .f32⟩
  | .local _ .vmem, ⟨2, _⟩ => ⟨S128x512, .f32⟩
  | .local _ .vmem, ⟨3, _⟩ => ⟨S128x512, .f32⟩
  | .local _ .vmem, ⟨4, _⟩ => ⟨S128x512, .i32⟩
  | .local _ .vmem, ⟨5, _⟩ => ⟨S128x512, .i32⟩
  | .local _ .vmem, ⟨6, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_9 : Ref sig .tc := ⟨.hbm, 99, rfl⟩
abbrev main_v78 : Ref sig .tc := ⟨.hbm, 100, rfl⟩
abbrev main_v79 : Ref sig .tc := ⟨.hbm, 101, rfl⟩
abbrev main_cst_10 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_call0_cst : Ref sig .tc := ⟨.hbm, 106, rfl⟩
abbrev main_call0_v0 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_11 : Ref sig .tc := ⟨.hbm, 116, rfl⟩
abbrev main_call1_v0 : Ref sig .tc := ⟨.hbm, 117, rfl⟩
abbrev main_v91 : Ref sig .tc := ⟨.hbm, 118, rfl⟩
abbrev main_v92_0 : Ref sig .tc := ⟨.hbm, 119, rfl⟩
abbrev main_v92_1 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2048x2048 : Shape := ⟨2, ![2048, 2048]⟩
abbrev S2048x1536 : Shape := ⟨2, ![2048, 1536]⟩
abbrev S2048 : Shape := ⟨1, ![2048]⟩
abbrev S1536x2048 : Shape := ⟨2, ![1536, 2048]⟩
abbrev S2048x128 : Shape := ⟨2, ![2048, 128]⟩
abbrev S128 : Shape := ⟨1, ![128]⟩
abbrev S2048x16 : Shape := ⟨2, ![2048, 16]⟩
abbrev S2048x64 : Shape := ⟨2, ![2048, 64]⟩
abbrev S128x128 : Shape := ⟨2, ![128, 128]⟩
abbrev S2048x16x128 : Shape := ⟨3, ![2048, 16, 128]⟩
abbrev S_ : Shape := ⟨0, ![]⟩
abbrev S2048x1 : Shape := ⟨2, ![2048, 1]⟩
abbrev S1x128 : Shape := ⟨2, ![1, 128]⟩
abbrev S2048x2 : Shape := ⟨2, ![2048, 2]⟩
abbrev S2048x32 : Shape := ⟨2, ![2048, 32]⟩
abbrev S2048x16x64 : Shape := ⟨3, ![2048, 16, 64]⟩
abbrev S2048x1x32 : Shape := ⟨3, ![2048, 1, 32]⟩
abbrev S2048x16x32 : Shape := ⟨3, ![2048, 16, 32]⟩
abbrev S2048x16x2048 : Shape := ⟨3, ![2048, 16, 2048]⟩
abbrev S1x2048 : Shape := ⟨2, ![1, 2048]⟩
abbrev S2048x512 : Shape := ⟨2, ![2048, 512]⟩

abbrev nBuf : Space → Nat
  | .hbm => 121
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1536, .f32⟩
  | .hbm, ⟨2, _⟩ => ⟨S2048, .i32⟩
  | .hbm, ⟨3, _⟩ => ⟨S1536x2048, .f32⟩
  | .hbm, ⟨4, _⟩ => ⟨S2048x128, .f32⟩
  | .hbm, ⟨5, _⟩ => ⟨S128, .f32⟩
  | .hbm, ⟨6, _⟩ => ⟨S128, .f32⟩
  | .hbm, ⟨7, _⟩ => ⟨S2048x16, .f32⟩
  | .hbm, ⟨8, _⟩ => ⟨S2048x64, .f32⟩
  | .hbm, ⟨9, _⟩ => ⟨S128x128, .f32⟩
  | .hbm, ⟨10, _⟩ => ⟨S2048x2048, .f32⟩
  | .hbm, ⟨11, _⟩ => ⟨S2048x16x128, .f32⟩
  | .hbm, ⟨12, _⟩ => ⟨S2048x128, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x128, .f32⟩
  | .hbm, ⟨35, _⟩ => ⟨S2048x128, .f32⟩
  | .hbm, ⟨36, _⟩ => ⟨S1x128, .f32⟩
  | .hbm, ⟨37, _⟩ => ⟨S2048x128, .f32⟩
  | .hbm, ⟨38, _⟩ => ⟨S2048x128, .f32⟩
  | .hbm, ⟨39, _⟩ => ⟨S1x128, .f32⟩
  | .hbm, ⟨40, _⟩ => ⟨S2048x128, .f32⟩
  | .hbm, ⟨41, _⟩ => ⟨S2048x128, .f32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S2048x1, .i32⟩
  | .hbm, ⟨50, _⟩ => ⟨S_, .i32⟩
  | .hbm, ⟨51, _⟩ => ⟨S2048x1, .i32⟩
  | .hbm, ⟨52, _⟩ => ⟨S2048x2, .i32⟩
  | .hbm, ⟨53, _⟩ => ⟨S2048x32, .f32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .i32⟩
  | .hbm, ⟨61, _⟩ => ⟨S2048x1, .i32⟩
  | .hbm, ⟨62, _⟩ => ⟨S_, .i32⟩
  | .hbm, ⟨63, _⟩ => ⟨S2048x1, .i32⟩
  | .hbm, ⟨64, _⟩ => ⟨S2048x2, .i32⟩
  | .hbm, ⟨65, _⟩ => ⟨S2048x32, .f32⟩
  | .hbm, ⟨66, _⟩ => ⟨S2048x16x64, .f32⟩
  | .hbm, ⟨67, _⟩ => ⟨S2048x1x32, .f32⟩
  | .hbm, ⟨68, _⟩ => ⟨S2048x1x32, .f32⟩
  | .hbm, ⟨69, _⟩ => ⟨S2048x16x32, .f32⟩
  | .hbm, ⟨70, _⟩ => ⟨S2048x16x32, .f32⟩
  | .hbm, ⟨71, _⟩ => ⟨S2048x16x32, .f32⟩
  | .hbm, ⟨72, _⟩ => ⟨S2048x16x32, .f32⟩
  | .hbm, ⟨73, _⟩ => ⟨S2048x16x32, .f32⟩
  | .hbm, ⟨74, _⟩ => ⟨S2048x16x32, .f32⟩
  | .hbm, ⟨75, _⟩ => ⟨S2048x16x32, .f32⟩
  | .hbm, ⟨76, _⟩ => ⟨S2048x16x32, .f32⟩
  | .hbm, ⟨77, _⟩ => ⟨S2048x16x32, .f32⟩
  | .hbm, ⟨78, _⟩ => ⟨S2048x16x32, .f32⟩
  | .hbm, ⟨79, _⟩ => ⟨S2048x16x32, .f32⟩
  | .hbm, ⟨80, _⟩ => ⟨S2048x16x32, .f32⟩
  | .hbm, ⟨81, _⟩ => ⟨S2048x16x64, .f32⟩
  | .hbm, ⟨82, _⟩ => ⟨S2048x16x64, .f32⟩
  | .hbm, ⟨83, _⟩ => ⟨S2048x16x128, .f32⟩
  | .hbm, ⟨84, _⟩ => ⟨S2048x64, .f32⟩
  | .hbm, ⟨85, _⟩ => ⟨S2048x32, .f32⟩
  | .hbm, ⟨86, _⟩ => ⟨S2048x32, .f32⟩
  | .hbm, ⟨87, _⟩ => ⟨S2048x32, .f32⟩
  | .hbm, ⟨88, _⟩ => ⟨S2048x32, .f32⟩
  | .hbm, ⟨89, _⟩ => ⟨S2048x32, .f32⟩
  | .hbm, ⟨90, _⟩ => ⟨S2048x32, .f32⟩
  | .hbm, ⟨91, _⟩ => ⟨S2048x32, .f32⟩
  | .hbm, ⟨92, _⟩ => ⟨S2048x32, .f32⟩
  | .hbm, ⟨93, _⟩ => ⟨S2048x64, .f32⟩
  | .hbm, ⟨94, _⟩ => ⟨S2048x64, .f32⟩
  | .hbm, ⟨95, _⟩ => ⟨S2048x128, .f32⟩
  | .hbm, ⟨96, _⟩ => ⟨S2048x16x128, .f32⟩
  | .hbm, ⟨97, _⟩ => ⟨S2048x128, .f32⟩
  | .hbm, ⟨98, _⟩ => ⟨S2048x16, .f32⟩
  | .hbm, ⟨99, _⟩ => ⟨S_, .f32⟩
  | .hbm, ⟨100, _⟩ => ⟨S2048x16, .f32⟩
  | .hbm, ⟨101, _⟩ => ⟨S2048x16, .f32⟩
  | .hbm, ⟨102, _⟩ => ⟨S_, .f32⟩
  | .hbm, ⟨103, _⟩ => ⟨S2048x16, .f32⟩
  | .hbm, ⟨104, _⟩ => ⟨S2048x16, .f32⟩
  | .hbm, ⟨105, _⟩ => ⟨S2048x16x2048, .f32⟩
  | .hbm, ⟨106, _⟩ => ⟨S_, .f32⟩
  | .hbm, ⟨107, _⟩ => ⟨S2048x16x2048, .f32⟩
  | .hbm, ⟨108, _⟩ => ⟨S2048x16x2048, .f32⟩
  | .hbm, ⟨109, _⟩ => ⟨S2048x2048, .f32⟩
  | .hbm, ⟨110, _⟩ => ⟨S2048x1, .i32⟩
  | .hbm, ⟨111, _⟩ => ⟨S2048, .i32⟩
  | .hbm, ⟨112, _⟩ => ⟨S1x2048, .i32⟩
  | .hbm, ⟨113, _⟩ => ⟨S2048x2048, .i32⟩
  | .hbm, ⟨114, _⟩ => ⟨S2048x2048, .i32⟩
  | .hbm, ⟨115, _⟩ => ⟨S2048x2048, .i1⟩
  | .hbm, ⟨116, _⟩ => ⟨S_, .f32⟩
  | .hbm, ⟨117, _⟩ => ⟨S2048x2048, .f32⟩
  | .hbm, ⟨118, _⟩ => ⟨S2048x2048, .f32⟩
  | .hbm, ⟨119, _⟩ => ⟨S2048x512, .f32⟩
  | .hbm, ⟨120, _⟩ => ⟨S2048x512, .i32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_9 : Ref sig .tc := ⟨.hbm, 99, rfl⟩
abbrev main_v78 : Ref sig .tc := ⟨.hbm, 100, rfl⟩
abbrev main_v79 : Ref sig .tc := ⟨.hbm, 101, rfl⟩
abbrev main_cst_10 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_call0_cst : Ref sig .tc := ⟨.hbm, 106, rfl⟩
abbrev main_call0_v0 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_11 : Ref sig .tc := ⟨.hbm, 116, rfl⟩
abbrev main_call1_v0 : Ref sig .tc := ⟨.hbm, 117, rfl⟩
abbrev main_v91 : Ref sig .tc := ⟨.hbm, 118, rfl⟩
abbrev main_values : Ref sig .tc := ⟨.hbm, 119, rfl⟩
abbrev main_indices : Ref sig .tc := ⟨.hbm, 120, rfl⟩

abbrev nD : Nat := 1
abbrev τ : Topo := Topo.v7x

variable {F : FTy → Type} [FloatOps F]
-- ==== Proof.Stage.lean ====
/- One stage of the kernel's sort of a block of 128 rows of 2048 logits, and the 66 stages one after another, written once for every
   distance and every size. A block is a pair of vectors: the values and the columns they came from. A stage fetches each lane's
   partner by two rotations (each a concatenation of two slices) and a select, compares, and keeps or takes. -/
module

public import Idealize.ShloMosaic.Lib.Pointwise.ShapeOps
public import Idealize.ShloMosaic.Lib.Pointwise.Elementwise
public import Idealize.ShloMosaic.Lib.Pointwise.SelectCore
public import Idealize.ShloMosaic.Lib.Tactic

@[expose] public section

noncomputable section

namespace Cert.Topk

open Idealize.ShloMosaic

/-- A block: 128 rows of 2048 lanes. -/
abbrev SB : Shape := ⟨2, ![128, 2048]⟩

/-- A block's slice of `b` lanes. -/
abbrev SC (b : Nat) : Shape := ⟨2, ![128, b]⟩

theorem slices_SB (a b : Nat) (h : a + b ≤ 2048) : SB.Slices ![0, a] (SC b) :=
  ⟨rfl, fun i => by
    match i with
    | ⟨0, _⟩ => show 0 + 128 ≤ 128; omega
    | ⟨1, _⟩ => exact h⟩

theorem concatenates_SB (a b : Nat) (h : b + a = 2048) : Shape.Concatenates [SC b, SC a] SB 1 := by
  refine ⟨by simp, fun s hs => ?_, ?_⟩
  · rcases List.mem_pair.mp hs with rfl | rfl
    · exact ⟨rfl, fun i hi => by match i with
        | ⟨0, _⟩ => rfl
        | ⟨1, _⟩ => exact absurd rfl hi⟩
    · exact ⟨rfl, fun i hi => by match i with
        | ⟨0, _⟩ => rfl
        | ⟨1, _⟩ => exact absurd rfl hi⟩
  · show b + (a + 0) = 2048
    omega

/-- The rotation of the lanes to the left by `a`: the lanes from `a` on, then the first `a`. -/
def rot {α : Type} (a b : Nat) (h : b + a = 2048) (x : SB.Idx → α) : SB.Idx → α :=
  concatenate SB 1 [⟨SC b, extractStridedSlice (SC b) ![0, a] x (slices_SB a b (by omega))⟩,
    ⟨SC a, extractStridedSlice (SC a) ![0, 0] x (slices_SB 0 a (by omega))⟩] (concatenates_SB a b h)

/-- The lane numbers. -/
def lane : IVec SB 32 := iota .tc SB 32 [1] (by decide)

/-- The lanes whose number has no bit in common with `w`. -/
def clear (w : BitVec 32) : IVec SB 1 := cmpi .eq (andi lane (broadcast SB w)) (broadcast SB 0#32)

/-- The partner's element: `a` lanes to the right where bit `a` of the lane is clear, `a` lanes to the left where it is set. -/
def fetch {α : Type} (a b : Nat) (h : b + a = 2048) (w : BitVec 32) (x : SB.Idx → α) : SB.Idx → α :=
  select (clear w) (rot a b h x) (rot b a (by omega) x)

variable {F : FTy → Type} [FloatOps F]

/-- Where a lane keeps its own entry: the entry of the greater value, and of equal values the one of the lower column, goes to the lower
    lane of the pair where the lane's bit `u` is clear, and to the upper where it is set. -/
def keeps (w u : BitVec 32) (v pv : FVec F SB .f32) (i pi : IVec SB 32) : IVec SB 1 :=
  xori (xori (clear u) (clear w)) (ori (cmpf .ogt v pv) (andi (cmpf .oeq v pv) (cmpi .slt i pi)))

/-- One stage at distance `a` in runs of size `u`. -/
def step (a b : Nat) (h : b + a = 2048) (w u : BitVec 32) (x : FVec F SB .f32 × IVec SB 32) : FVec F SB .f32 × IVec SB 32 :=
  (select (keeps w u x.1 (fetch a b h w x.1) x.2 (fetch a b h w x.2)) x.1 (fetch a b h w x.1),
    select (keeps w u x.1 (fetch a b h w x.1) x.2 (fetch a b h w x.2)) x.2 (fetch a b h w x.2))

theorem pow_add {s : Nat} (hs : s < 11) : 2048 - 2 ^ s + 2 ^ s = 2048 := by
  have : 2 ^ s ≤ 2 ^ 11 := Nat.pow_le_pow_right (by decide) (by omega)
  omega

/-- The stage of level `l` at distance `2 ^ s`. -/
def stepAt (l s : Nat) (hs : s < 11) : FVec F SB .f32 × IVec SB 32 → FVec F SB .f32 × IVec SB 32 :=
  step (2 ^ s) (2048 - 2 ^ s) (pow_add hs) (BitVec.ofNat 32 (2 ^ s)) (BitVec.ofNat 32 (2 ^ (l + 1)))

/-- Level `l`'s first stages: the distances `2 ^ l`, …, down to `2 ^ s`, for `s = l - n + 1` after `n` of them. -/
def level (l : Nat) (hl : l < 11) : Nat → FVec F SB .f32 × IVec SB 32 → FVec F SB .f32 × IVec SB 32
  | 0, x => x
  | n + 1, x => stepAt l (l - n) (by omega) (level l hl n x)

/-- The first `n` levels, each with all of its stages. -/
def levels : (n : Nat) → n ≤ 11 → FVec F SB .f32 × IVec SB 32 → FVec F SB .f32 × IVec SB 32
  | 0, _, x => x
  | n + 1, h, x => level n (by omega) (n + 1) (levels n (by omega) x)

/-- The block sorted: all eleven levels, from the values and the lane numbers. -/
def sorted (v : FVec F SB .f32) : FVec F SB .f32 × IVec SB 32 := levels 11 (by decide) (v, lane)

end Cert.Topk

end
-- ==== Proof.Body.lean ====
/- What the kernel's body leaves in its two result blocks: the first 512 lanes of the sorted block. -/
module

public import proofs.«01_k».proof.Proof.Stage
public import proofs.«01_k».proof.Proof.Gen.KernelIdeal.Value

@[expose] public section

set_option maxRecDepth 16384

noncomputable section

namespace Cert.Topk

open Idealize.ShloMosaic Cert.KernelIdeal Cert.KernelIdeal.Gen Idealize.ShloMosaic.TcCoe Idealize.SL.Sem

variable {F : FTy → Type} [FloatOps F]

/-- The block the body loads. -/
def loaded (arg1 : Memref sig .tc .vmem S128x2048 .f32) (harg1 : arg1.IsWhole) (x0 : Vec F S128x2048 .f32) : FVec F SB .f32 :=
  shapeCast SB (View.readAt (Elt F) arg1.view (Rect.unit ![0, 0] S128x2048.size inb_S128x2048_S128x2048_0_0).toLoadRect
    (harg1.unread x0)) (by decide)

/-- The values' block the body stores. -/
theorem run_values (c : Dev nD) (i : grid0.Coords) (arg1 : Memref sig .tc .vmem S128x2048 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x2048 .f32) (harg4 : arg4.IsWhole)
    (x0 : Vec F S128x2048 .f32) :
    (kernelRun0_A c i arg1 harg1 arg2 harg2 arg3 harg3 arg4 harg4 x0).1 =
      [⟨Rect.unit ![0, 0] ![128, 512] inb_S128x512_S128x512_0_0,
        extractStridedSlice (SC 512) ![0, 0] (sorted (loaded arg1 harg1 x0)).1 (slices_SB 0 512 (by decide))⟩] := by
  sl_kernel_rfl

/-- The columns' block the body stores. -/
theorem run_columns (c : Dev nD) (i : grid0.Coords) (arg1 : Memref sig .tc .vmem S128x2048 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x2048 .f32) (harg4 : arg4.IsWhole)
    (x0 : Vec F S128x2048 .f32) :
    (kernelRun0_A c i arg1 harg1 arg2 harg2 arg3 harg3 arg4 harg4 x0).2.1 =
      [⟨Rect.unit ![0, 0] ![128, 512] inb_S128x512_S128x512_0_0,
        extractStridedSlice (SC 512) ![0, 0] (sorted (loaded arg1 harg1 x0)).2 (slices_SB 0 512 (by decide))⟩] := by
  sl_kernel_rfl

end Cert.Topk

end
-- ==== Proof.Sort.lean ====
/- The stages of Stage.lean over the ideal numbers are the stages of the bitonic sorting network of the library, row by row: a row of a
   block holds 2048 entries, each a value and the column it came from, ordered by the value and then by the lower column. -/
module

public import proofs.«01_k».proof.Proof.Stage
public import Idealize.ShloMosaic.Lib.SortNet.Printed
public import Idealize.ShloMosaic.Lib.SortNet.Sorts
public import Idealize.ShloMosaic.Lib.ValueIdxCore
public import Idealize.ShloMosaic.Lib.Pipeline.Value

@[expose] public section

noncomputable section

namespace Cert.Topk

open Idealize.ShloMosaic Idealize.ShloMosaic.SortNet

/-- An entry of a row: its value, and its column, the lower column being the greater entry of two with one value. -/
abbrev Ent := EReal ×ₗ ℕᵒᵈ

/-- The entry of a value and a column. -/
def ent (v : EReal) (n : ℕ) : Ent := toLex (v, OrderDual.toDual n)

/-- An entry's value. -/
def entVal (e : Ent) : EReal := (ofLex e).1

/-- An entry's column. -/
def entCol (e : Ent) : ℕ := OrderDual.ofDual (ofLex e).2

theorem ent_entVal_entCol (e : Ent) : ent (entVal e) (entCol e) = e := rfl

theorem ent_lt_iff (e f : Ent) : e < f ↔ entVal e < entVal f ∨ (entVal e = entVal f ∧ entCol f < entCol e) := by
  show toLex (ofLex e) < toLex (ofLex f) ↔ _
  rw [Prod.Lex.toLex_lt_toLex]
  rfl

/-- The lane of a row. -/
abbrev pos (r : Fin 128) (j : Fin (2 ^ 11)) : SB.Idx := ValueIdx.ix2 r (j : Fin 2048)

section rotation

variable {α : Type}

/-- The lanes below `b` read `a` lanes to the right. -/
theorem rot_low (a b : Nat) (h : b + a = 2048) (x : SB.Idx → α) (r : Fin 128) (j k : Fin (2 ^ 11)) (hj : j.val < b)
    (hk : k.val = j.val + a) : rot a b h x (pos r j) = x (pos r k) := by
  have e := concatenate_pair_apply_left (1 : Fin SB.rank) (extractStridedSlice (SC b) ![0, a] x (slices_SB a b (by omega)))
    (extractStridedSlice (SC a) ![0, 0] x (slices_SB 0 a (by omega))) (concatenates_SB a b h) (pos r j) rfl
    (ValueIdx.ix2 r (⟨j.val, hj⟩ : Fin b)) (fun d => by match d with
      | ⟨0, _⟩ => rfl
      | ⟨1, _⟩ => rfl)
  refine e.trans ?_
  show x _ = x _
  congr 1
  funext d
  match d with
  | ⟨0, _⟩ => exact Fin.ext (Nat.zero_add _)
  | ⟨1, _⟩ => exact Fin.ext ((Nat.add_comm _ _).trans hk.symm)

/-- The lanes from `b` on read `b` lanes to the left. -/
theorem rot_high (a b : Nat) (h : b + a = 2048) (x : SB.Idx → α) (r : Fin 128) (j k : Fin (2 ^ 11))
    (hk : k.val + b = j.val) : rot a b h x (pos r j) = x (pos r k) := by
  have hj : j.val < 2048 := j.isLt
  have e := concatenate_pair_apply_right (1 : Fin SB.rank) (extractStridedSlice (SC b) ![0, a] x (slices_SB a b (by omega)))
    (extractStridedSlice (SC a) ![0, 0] x (slices_SB 0 a (by omega))) (concatenates_SB a b h) (pos r j) rfl rfl
    (ValueIdx.ix2 r (⟨k.val, by omega⟩ : Fin a)) (fun d hd => by match d with
      | ⟨0, _⟩ => rfl
      | ⟨1, _⟩ => exact absurd rfl hd) hk
  refine e.trans ?_
  show x _ = x _
  congr 1
  funext d
  match d with
  | ⟨0, _⟩ => exact Fin.ext (Nat.zero_add _)
  | ⟨1, _⟩ => exact Fin.ext (Nat.zero_add _)

end rotation

/-- A lane's number. -/
theorem lane_pos (r : Fin 128) (j : Fin (2 ^ 11)) : lane (pos r j) = BitVec.ofNat 32 j.val := by
  show BitVec.ofNat 32 (0 * 2048 + j.val) = _
  rw [Nat.zero_mul, Nat.zero_add]

/-- The test of a lane's bit. -/
theorem clear_pos (r : Fin 128) (j : Fin (2 ^ 11)) (s : Nat) (hs : s ≤ 11) :
    clear (BitVec.ofNat 32 (2 ^ s)) (pos r j) = BitVec.ofBool (decide (j.val &&& 2 ^ s = 0)) := by
  have hp : 2 ^ s ≤ 2 ^ 11 := Nat.pow_le_pow_right (by decide) hs
  have hj : j.val < 2048 := j.isLt
  show BitVec.ofBool (IntOp.andi (lane (pos r j)) (BitVec.ofNat 32 (2 ^ s)) == 0#32) = _
  rw [lane_pos]
  congr 1
  rw [Bool.eq_iff_iff, beq_iff_eq, decide_eq_true_eq,
    and_distance_eq_zero_iff (by omega) _ (by rw [BitVec.toNat_ofNat]; exact Nat.mod_eq_of_lt (by omega))]

/-- A stage's fetch is the partner's element. -/
theorem fetch_pos {α : Type} (r : Fin 128) (j : Fin (2 ^ 11)) (s : Nat) (hs : s < 11) (x : SB.Idx → α) :
    fetch (2 ^ s) (2048 - 2 ^ s) (pow_add hs) (BitVec.ofNat 32 (2 ^ s)) x (pos r j) = x (pos r (partner 11 s j)) := by
  show Scalar.select (clear (BitVec.ofNat 32 (2 ^ s)) (pos r j)) _ _ = _
  rw [clear_pos r j s (by omega), select_ofBool]
  by_cases hb : j.val &&& 2 ^ s = 0
  · have hv := partner_val_of_clear hs j hb
    have hlt : (partner 11 s j).val < 2048 := (partner 11 s j).isLt
    rw [decide_eq_true hb, if_pos rfl]
    exact rot_low _ _ _ x r j _ (by omega) hv
  · obtain ⟨hle, hv⟩ := partner_val_of_set hs j hb
    rw [decide_eq_false hb, if_neg Bool.false_ne_true]
    exact rot_high _ _ _ x r j _ (by omega)

/-- A row of a block holds entries: each lane's value and the word of its column. -/
def Holds (x : FVec Ideal SB .f32 × IVec SB 32) (r : Fin 128) (E : Fin (2 ^ 11) → Ent) : Prop :=
  ∀ j, x.1 (pos r j) = entVal (E j) ∧ x.2 (pos r j) = BitVec.ofNat 32 (entCol (E j)) ∧ entCol (E j) < 2048

/-- Two columns compare as their words do. -/
theorem slt_ofNat {m n : Nat} (hm : m < 2048) (hn : n < 2048) :
    IntOp.cmpi .slt (BitVec.ofNat 32 m) (BitVec.ofNat 32 n) = BitVec.ofBool (decide (m < n)) := by
  show BitVec.ofBool (BitVec.slt (BitVec.ofNat 32 m) (BitVec.ofNat 32 n)) = _
  congr 1
  rw [Bool.eq_iff_iff, BitVec.slt_iff_toInt_lt, decide_eq_true_eq, BitVec.toInt_eq_toNat_of_lt, BitVec.toInt_eq_toNat_of_lt,
    BitVec.toNat_ofNat, BitVec.toNat_ofNat] <;> (try rw [BitVec.toNat_ofNat]) <;> omega

theorem ori_ofBool (a b : Bool) : IntOp.ori (BitVec.ofBool a) (BitVec.ofBool b) = BitVec.ofBool (a || b) := by
  cases a <;> cases b <;> rfl

theorem andi_ofBool (a b : Bool) : IntOp.andi (BitVec.ofBool a) (BitVec.ofBool b) = BitVec.ofBool (a && b) := by
  cases a <;> cases b <;> rfl

theorem xori_ofBool (a b : Bool) : IntOp.xori (BitVec.ofBool a) (BitVec.ofBool b) = BitVec.ofBool (a ^^ b) := by
  cases a <;> cases b <;> rfl

/-- The comparison of a lane's own entry with another. -/
theorem greater_ent (e f : Ent) (he : entCol e < 2048) (hf : entCol f < 2048) :
    IntOp.ori (Ideal.cmp .ogt (entVal e) (entVal f)) (IntOp.andi (Ideal.cmp .oeq (entVal e) (entVal f))
      (IntOp.cmpi .slt (BitVec.ofNat 32 (entCol e)) (BitVec.ofNat 32 (entCol f)))) = BitVec.ofBool (decide (f < e)) := by
  rw [slt_ofNat he hf]
  show IntOp.ori (BitVec.ofBool (decide (entVal f < entVal e)))
    (IntOp.andi (BitVec.ofBool (decide (entVal e = entVal f))) _) = _
  rw [andi_ofBool, ori_ofBool]
  congr 1
  rw [Bool.eq_iff_iff, decide_eq_true_eq, ent_lt_iff, Bool.or_eq_true, Bool.and_eq_true, decide_eq_true_eq, decide_eq_true_eq,
    decide_eq_true_eq, eq_comm (a := entVal e)]

/-- The direction of level `l`: the greater entry goes to the lower lane where bit `l + 1` is clear. -/
def down (l : Nat) (i : Fin (2 ^ 11)) : Bool := decide (i.val &&& 2 ^ (l + 1) = 0) == true

/-- Where a lane keeps its own entry. -/
theorem keeps_pos (l s : Nat) (hl : l < 11) (hs : s < 11) (x : FVec Ideal SB .f32 × IVec SB 32) (r : Fin 128)
    (E : Fin (2 ^ 11) → Ent) (hE : Holds x r E) (j : Fin (2 ^ 11)) :
    keeps (BitVec.ofNat 32 (2 ^ s)) (BitVec.ofNat 32 (2 ^ (l + 1))) x.1
        (fetch (2 ^ s) (2048 - 2 ^ s) (pow_add hs) (BitVec.ofNat 32 (2 ^ s)) x.1) x.2
        (fetch (2 ^ s) (2048 - 2 ^ s) (pow_add hs) (BitVec.ofNat 32 (2 ^ s)) x.2) (pos r j)
      = BitVec.ofBool (decide (decide (E (partner 11 s j) < E j) = upperXor s (down l) j)) := by
  obtain ⟨h1, h2, h3⟩ := hE j
  obtain ⟨p1, p2, p3⟩ := hE (partner 11 s j)
  show IntOp.xori (IntOp.xori (clear _ (pos r j)) (clear _ (pos r j)))
    (IntOp.ori (Ideal.cmp .ogt (x.1 (pos r j)) (fetch _ _ _ _ x.1 (pos r j)))
      (IntOp.andi (Ideal.cmp .oeq (x.1 (pos r j)) (fetch _ _ _ _ x.1 (pos r j)))
        (IntOp.cmpi .slt (x.2 (pos r j)) (fetch _ _ _ _ x.2 (pos r j))))) = _
  rw [fetch_pos r j s hs, fetch_pos r j s hs, h1, h2, p1, p2, greater_ent _ _ h3 p3, clear_pos r j s (by omega),
    clear_pos r j (l + 1) (by omega), xori_ofBool, xori_ofBool]
  unfold upperXor down
  congr 1
  by_cases ha : j.val &&& 2 ^ s = 0 <;> by_cases hb : j.val &&& 2 ^ (l + 1) = 0 <;>
    by_cases hc : E (partner 11 s j) < E j <;> simp [ha, hb, hc]

/-- One stage acts on a row's entries as the network's stage. -/
theorem stepAt_holds (l s : Nat) (hl : l < 11) (hs : s < 11) (hsl : s ≤ l) (x : FVec Ideal SB .f32 × IVec SB 32) (r : Fin 128)
    (E : Fin (2 ^ 11) → Ent) (hE : Holds x r E) :
    Holds (stepAt l s hs x) r (Network.apply (stage 11 s (down l)) E) := by
  intro j
  have hk := keeps_pos l s hl hs x r E hE j
  have hsrc := apply_stage_src hs (upperXor s (down l)) (fun i => upperXor_partner hs (down l) i (sizeClear_partner hs hsl true i)) E j
  rw [stage_upperXor] at hsrc
  have hv : ∀ {α : Type} (y : SB.Idx → α), select (keeps (BitVec.ofNat 32 (2 ^ s)) (BitVec.ofNat 32 (2 ^ (l + 1))) x.1
        (fetch (2 ^ s) (2048 - 2 ^ s) (pow_add hs) (BitVec.ofNat 32 (2 ^ s)) x.1) x.2
        (fetch (2 ^ s) (2048 - 2 ^ s) (pow_add hs) (BitVec.ofNat 32 (2 ^ s)) x.2)) y
        (fetch (2 ^ s) (2048 - 2 ^ s) (pow_add hs) (BitVec.ofNat 32 (2 ^ s)) y) (pos r j)
      = y (pos r (stageSrc 11 s (upperXor s (down l)) E j)) := by
    intro α y
    show Scalar.select (keeps _ _ _ _ _ _ (pos r j)) (y (pos r j)) (fetch _ _ _ _ y (pos r j)) = _
    rw [hk, select_ofBool, fetch_pos r j s hs]
    unfold stageSrc
    by_cases hc : decide (E (partner 11 s j) < E j) = upperXor s (down l) j
    · rw [decide_eq_true hc, if_pos rfl, if_pos hc]
    · rw [decide_eq_false hc, if_neg Bool.false_ne_true, if_neg hc]
  obtain ⟨h1, h2, h3⟩ := hE (stageSrc 11 s (upperXor s (down l)) E j)
  rw [hsrc]
  exact ⟨(hv x.1).trans h1, (hv x.2).trans h2, h3⟩

/-- The first `n` stages of level `l`. -/
def levelPart (l n : Nat) : Network (2 ^ 11) := (List.range n).flatMap fun k => stage 11 (l - k) (down l)

theorem levelPart_succ (l n : Nat) : levelPart l (n + 1) = levelPart l n ++ stage 11 (l - n) (down l) := by
  unfold levelPart
  rw [List.range_succ, List.flatMap_append, List.flatMap_singleton]

/-- All of level `l`'s stages are the network's level. -/
theorem levelPart_all (l : Nat) : levelPart l (l + 1) = levelNet 11 true l := by
  have hr : (List.range (l + 1)).reverse = (List.range (l + 1)).map fun k => l - k := by
    refine List.ext_getElem (by simp) fun i h₁ h₂ => ?_
    rw [List.length_reverse, List.length_range] at h₁
    rw [List.getElem_reverse, List.getElem_map, List.getElem_range, List.getElem_range, List.length_range]
    omega
  show _ = (List.range (l + 1)).reverse.flatMap fun s => stage 11 s (down l)
  rw [hr, List.flatMap_map]
  rfl

theorem level_holds (l : Nat) (hl : l < 11) (n : Nat) (hn : n ≤ l + 1) (x : FVec Ideal SB .f32 × IVec SB 32) (r : Fin 128)
    (E : Fin (2 ^ 11) → Ent) (hE : Holds x r E) : Holds (level l hl n x) r (Network.apply (levelPart l n) E) := by
  induction n with
  | zero => exact hE
  | succ n ih =>
    rw [levelPart_succ, Network.apply_append]
    exact stepAt_holds l (l - n) hl (by omega) (by omega) _ r _ (ih (by omega))

theorem levels_holds (n : Nat) (hn : n ≤ 11) (x : FVec Ideal SB .f32 × IVec SB 32) (r : Fin 128)
    (E : Fin (2 ^ 11) → Ent) (hE : Holds x r E) : Holds (levels n hn x) r (Network.apply (levelsNet 11 true n) E) := by
  induction n with
  | zero => exact hE
  | succ n ih =>
    rw [levelsNet_succ, Network.apply_append, ← levelPart_all]
    exact level_holds n (by omega) (n + 1) (by omega) _ r _ (ih (by omega))

/-- A row's entries before the sort. -/
def start (v : FVec Ideal SB .f32) (r : Fin 128) (j : Fin (2 ^ 11)) : Ent := ent (v (pos r j)) j.val

/-- A row's entries after the sort. -/
theorem sorted_holds (v : FVec Ideal SB .f32) (r : Fin 128) :
    Holds (sorted v) r (Network.apply (sortNet 11 true) (start v r)) :=
  levels_holds 11 (by decide) (v, lane) r (start v r) fun j => ⟨rfl, lane_pos r j, j.isLt⟩

end Cert.Topk

end
-- ==== Proof.Rank.lean ====
/- The reference's top 512 of a row, and the first 512 lanes of a sorted row of the kernel's block: the same values from the same columns.
   The reference sorts a row stably by the value alone; the network orders entries by the value and then by the lower column. -/
module

public import proofs.«01_k».proof.Proof.Sort
public import Idealize.ShloMosaic.Lib.SortFacts
public import Idealize.ShloMosaic.Lib.SortPrefix
public import Idealize.ShloMosaic.Lib.SortNet.Positions

@[expose] public section

noncomputable section

namespace Cert.Topk

open Idealize.ShloMosaic Idealize.ShloMosaic.SortNet

/-- Two orders that agree on asking a later element against an earlier one sort a list alike. -/
theorem stableSort_of_agree {ι : Type} (A B : ι → ι → Bool) (l : List ι) (h : l.Pairwise fun a b => A b a = B b a) :
    stableSort A l = stableSort B l := by
  induction l with
  | nil => rfl
  | cons a l ih =>
    obtain ⟨ha, hl⟩ := List.pairwise_cons.mp h
    unfold stableSort
    rw [ih hl]
    exact insertBefore_congr A B a _ fun b hb => ha b ((perm_stableSort B l).mem_iff.mp hb)

/-- The entries of a list of values, each with its position. -/
def entries {n : Nat} (f : Fin n → EReal) (k : Fin n) : Ent := ent (f k) k.val

theorem entries_injective {n : Nat} (f : Fin n → EReal) : Function.Injective (entries f) := fun _ _ h =>
  Fin.ext (congrArg entCol h)

theorem entVal_entries {n : Nat} (f : Fin n → EReal) (k : Fin n) : entVal (entries f k) = f k := rfl

theorem entCol_entries {n : Nat} (f : Fin n → EReal) (k : Fin n) : entCol (entries f k) = k.val := rfl

/-- The stable sort of the values alone puts first what the order of the entries puts first. -/
theorem sortedFrom_values {n : Nat} (f : Fin n → EReal) (k : Fin n) :
    sortedFrom (fun a b => decide (f b < f a)) k = sortedFrom (greaterFirst (entries f)) k := by
  have e : sortPositions n (fun a b => decide (f b < f a)) = sortPositions n (greaterFirst (entries f)) := by
    refine stableSort_of_agree _ _ _ ((List.pairwise_lt_finRange n).imp fun {a b} hab => ?_)
    show decide (f a < f b) = decide (entries f a < entries f b)
    rw [decide_eq_decide, ent_lt_iff]
    refine ⟨Or.inl, fun h => h.resolve_right fun h => ?_⟩
    have h2 : b.val < a.val := h.2
    have h3 : a.val < b.val := hab
    omega
  unfold sortedFrom
  simp only [List.get_eq_getElem, e, Fin.val_cast]

/-- The network leaves at a position the entry the sort puts there. -/
theorem network_eq_sortedFrom (f : Fin (2 ^ 11) → EReal) (k : Fin (2 ^ 11)) :
    Network.apply (sortNet 11 true) (entries f) k = entries f (sortedFrom (greaterFirst (entries f)) k) := by
  obtain ⟨σ, hσ⟩ := Network.exists_perm (sortNet 11 true) (entries f)
  have hanti := sortNet_apply_antitone 11 (entries f)
  rw [hσ] at hanti ⊢
  have hk := (strictTotalBefore_greaterFirst (entries f) (entries_injective f)).sortedFrom_eq_of_prefix (le_refl (2 ^ 11)) σ
    σ.injective (fun i j hij => decide_eq_false (not_lt.mpr (hanti hij.le)))
    (fun i p hp => absurd (σ.apply_symm_apply p) (hp (σ.symm p))) k
  rw [show k.castLE (le_refl (2 ^ 11)) = k from rfl] at hk
  rw [hk]
  rfl

/-- The rows of logits, and the rows of the top 512. -/
abbrev SL : Shape := ⟨2, ![2048, 2048]⟩
abbrev ST : Shape := ⟨2, ![2048, 512]⟩

/-- A row's order for the reference's sort, of two columns. -/
def rowBefore (L : FVec Ideal SL .f32) (R : Fin 2048) (a b : Fin 2048) : Bool :=
  decide (L (ValueIdx.ix2 R b) < L (ValueIdx.ix2 R a))

/-- The comparison of the reference's sort, of two values. -/
theorem greater_beq (x y : EReal) : (Ideal.cmp .ogt x y == 1#1) = decide (y < x) := by
  show (BitVec.ofBool (decide (y < x)) == 1#1) = _
  cases decide (y < x) <;> rfl

/-- The reference's value and column at a rank of a row. -/
theorem topK_at (L : FVec Ideal SL .f32) (h : SL.Slices (fun _ => 0) ST) (R : Fin 2048) (k : Fin 512) (k' : Fin 2048)
    (hk : k'.val = k.val) :
    (Host.topK ST 1 (FloatOps.cmpfTotal (F := Ideal) (φ := .f32) .gt) L h).1 (ValueIdx.ix2 R k)
        = L (ValueIdx.ix2 R (sortedFrom (rowBefore L R) k')) ∧
    (Host.topK ST 1 (FloatOps.cmpfTotal (F := Ideal) (φ := .f32) .gt) L h).2 (ValueIdx.ix2 R k)
        = BitVec.ofNat 32 (sortedFrom (rowBefore L R) k').val := by
  have hal : ∀ m : Fin 2048, Shape.Idx.along (ValueIdx.ix2 R k' : SL.Idx) 1 m = ValueIdx.ix2 R m := fun m => by
    funext d
    match d with
    | ⟨0, _⟩ => rfl
    | ⟨1, _⟩ => rfl
  have hix : (fun a => ⟨0 + (ValueIdx.ix2 R k : ST.Idx) (a.cast h.1.symm),
      Nat.lt_of_lt_of_le (Nat.add_lt_add_left (Fin.isLt _) _) (h.2 a)⟩ : SL.Idx) = ValueIdx.ix2 R k' := by
    funext d
    match d with
    | ⟨0, _⟩ => exact Fin.ext (Nat.zero_add _)
    | ⟨1, _⟩ => exact Fin.ext ((Nat.zero_add _).trans hk.symm)
  have hb : (fun a b : Fin 2048 => FloatOps.cmpfTotal (F := Ideal) (φ := .f32) .gt
      (L (Shape.Idx.along (ValueIdx.ix2 R k' : SL.Idx) 1 a)) (L (Shape.Idx.along (ValueIdx.ix2 R k' : SL.Idx) 1 b)) == 1#1)
      = rowBefore L R := by
    funext a b
    rw [hal, hal]
    exact greater_beq _ _
  have h1 : ∀ J : SL.Idx, J = ValueIdx.ix2 R k' → (Host.sort2 SL 1 (fun l r => FloatOps.cmpfTotal (F := Ideal) (φ := .f32) .gt l.1 r.1) L
      (fun i => if hd : 1 < SL.rank then iotaInDim SL 32 ⟨1, hd⟩ i else 0#32)).1 J
        = L (ValueIdx.ix2 R (sortedFrom (rowBefore L R) k')) := by
    intro J hJ
    subst hJ
    show L (Shape.Idx.along (ValueIdx.ix2 R k' : SL.Idx) 1 (sortedFrom (fun a b : Fin 2048 => FloatOps.cmpfTotal (F := Ideal) (φ := .f32) .gt
      (L (Shape.Idx.along (ValueIdx.ix2 R k' : SL.Idx) 1 a)) (L (Shape.Idx.along (ValueIdx.ix2 R k' : SL.Idx) 1 b)) == 1#1) k')) = _
    rw [hb]
    exact congrArg L (hal _)
  have h2 : ∀ J : SL.Idx, J = ValueIdx.ix2 R k' → (Host.sort2 SL 1 (fun l r => FloatOps.cmpfTotal (F := Ideal) (φ := .f32) .gt l.1 r.1) L
      (fun i => if hd : 1 < SL.rank then iotaInDim SL 32 ⟨1, hd⟩ i else 0#32)).2 J
        = BitVec.ofNat 32 (sortedFrom (rowBefore L R) k').val := by
    intro J hJ
    subst hJ
    show iotaInDim SL 32 1 (Shape.Idx.along (ValueIdx.ix2 R k' : SL.Idx) 1 (sortedFrom (fun a b : Fin 2048 => FloatOps.cmpfTotal (F := Ideal) (φ := .f32) .gt
      (L (Shape.Idx.along (ValueIdx.ix2 R k' : SL.Idx) 1 a)) (L (Shape.Idx.along (ValueIdx.ix2 R k' : SL.Idx) 1 b)) == 1#1) k')) = _
    rw [hb]
    exact (congrArg (iotaInDim SL 32 1) (hal _)).trans rfl
  exact ⟨h1 _ hix, h2 _ hix⟩

/-- The first 512 lanes of a sorted row are the reference's top 512 of the same values, and their columns. -/
theorem sorted_eq_topK (L : FVec Ideal SL .f32) (h : SL.Slices (fun _ => 0) ST) (v : FVec Ideal SB .f32) (r : Fin 128) (R : Fin 2048)
    (hv : ∀ j : Fin (2 ^ 11), v (pos r j) = L (ValueIdx.ix2 R j)) (k : Fin 512) (k' : Fin (2 ^ 11)) (hk : k'.val = k.val) :
    (sorted v).1 (pos r k') = (Host.topK ST 1 (FloatOps.cmpfTotal (F := Ideal) (φ := .f32) .gt) L h).1 (ValueIdx.ix2 R k) ∧
    (sorted v).2 (pos r k') = (Host.topK ST 1 (FloatOps.cmpfTotal (F := Ideal) (φ := .f32) .gt) L h).2 (ValueIdx.ix2 R k) := by
  have hs : start v r = entries fun j : Fin (2 ^ 11) => L (ValueIdx.ix2 R j) := by
    funext j
    show ent (v (pos r j)) j.val = _
    rw [hv]
    rfl
  obtain ⟨e1, e2, -⟩ := sorted_holds v r k'
  obtain ⟨t1, t2⟩ := topK_at L h R k k' hk
  rw [hs, network_eq_sortedFrom, ← sortedFrom_values, entVal_entries] at e1
  rw [hs, network_eq_sortedFrom, ← sortedFrom_values, entCol_entries] at e2
  exact ⟨e1.trans t1.symm, e2.trans t2.symm⟩

end Cert.Topk

end
-- ==== Proof.Blocks.lean ====
/- The kernel's two result arrays are the reference's top 512 of the array of logits the kernel reads: each grid point leaves the first
   512 lanes of its sorted block, row by row the top 512 of the same row of logits, and the sixteen blocks cover the arrays. -/
module

public import proofs.«01_k».proof.Proof.Body
public import proofs.«01_k».proof.Proof.Rank
public import Idealize.ShloMosaic.Lib.WholeRead
public import Idealize.ShloMosaic.Lib.WritesUnit
public import Idealize.ShloMosaic.Lib.Pipeline.ValueKit

@[expose] public section

noncomputable section

namespace Cert.Topk

open Idealize.ShloMosaic Cert.KernelIdeal Cert.KernelIdeal.Gen Idealize.ShloMosaic.TcCoe Idealize.SL.Sem

variable (m : (ℓ : Loc nD τ sig) → Buf (Elt Ideal) ℓ)

/-- The logits the kernel reads. -/
def logits (c : Dev nD) : FVec Ideal SL .f32 := V m c main_v91

/-- The block the body loads is the point's block. -/
theorem loaded_eq (arg1 : Memref sig .tc .vmem S128x2048 .f32) (harg1 : arg1.IsWhole) (x0 : Vec Ideal S128x2048 .f32) :
    loaded arg1 harg1 x0 = x0 := by
  unfold loaded
  refine (shapeCast_self (s := SB) _ _).trans ?_
  funext j
  refine (harg1.readAt_unread x0 _ j).trans (congrArg x0 ?_)
  funext d
  match d with
  | ⟨0, _⟩ => exact Fin.ext (show 0 + 1 * _ = _ by omega)
  | ⟨1, _⟩ => exact Fin.ext (show 0 + 1 * _ = _ by omega)

/-- A point's block of logits. -/
abbrev taken (c : Dev nD) (t : Fin cfg0.N) : FVec Ideal SB .f32 := iblk m c 0 t

/-- A lane of a result block among the lanes of the sorted block. -/
abbrev lower (k : Fin 512) : Fin (2 ^ 11) := ⟨k.val, lt_of_lt_of_le k.isLt (by decide)⟩

/-- The first lanes of a block, at a row and a lane. -/
theorem first_lanes {α : Type} (x : SB.Idx → α) (y : (SC 512).Idx) :
    extractStridedSlice (SC 512) ![0, 0] x (slices_SB 0 512 (by decide)) y = x (pos (y 0) (lower (y 1))) := by
  show x _ = x _
  congr 1
  funext d
  match d with
  | ⟨0, _⟩ => exact Fin.ext (Nat.zero_add _)
  | ⟨1, _⟩ => exact Fin.ext (Nat.zero_add _)

/-- What the body leaves in the block of values. -/
theorem out_values (c : Dev nD) (t : Fin cfg0.N) (y : S128x512.Idx) :
    (outsAt0 m c t).1 y = (sorted (taken m c t)).1 (pos (y 0) (lower (y 1))) := by
  unfold outsAt0 out0_A_1
  dsimp only
  rw [run_values, loaded_eq]
  refine Eq.trans ?_ (first_lanes (sorted (taken m c t)).1 y)
  exact View.read_writes_cons_unit_of_mem (Val := Elt Ideal) _ _ inb_S128x512_S128x512_0_0 _ [] y y rfl fun a => by
    match a with
    | ⟨0, _⟩ => exact (Nat.zero_add _).symm
    | ⟨1, _⟩ => exact (Nat.zero_add _).symm

/-- What the body leaves in the block of columns. -/
theorem out_columns (c : Dev nD) (t : Fin cfg0.N) (y : S128x512.Idx) :
    (outsAt0 m c t).2 y = (sorted (taken m c t)).2 (pos (y 0) (lower (y 1))) := by
  unfold outsAt0 out0_A_2
  dsimp only
  rw [run_columns, loaded_eq]
  refine Eq.trans ?_ (first_lanes (sorted (taken m c t)).2 y)
  exact View.read_writes_cons_unit_of_mem (Val := Elt Ideal) _ _ inb_S128x512_S128x512_0_0 _ [] y y rfl fun a => by
    match a with
    | ⟨0, _⟩ => exact (Nat.zero_add _).symm
    | ⟨1, _⟩ => exact (Nat.zero_add _).symm

theorem index_in : ∀ t : Fin cfg0.N, win0_0.index t = ![t.val, 0] :=
  (by decide +kernel : ∀ t : Fin grid0.N, win0_0.index t = ![t.val, 0])

theorem index_values : ∀ t : Fin cfg0.N, win0_1.index t = ![t.val, 0] :=
  (by decide +kernel : ∀ t : Fin grid0.N, win0_1.index t = ![t.val, 0])

theorem index_columns : ∀ t : Fin cfg0.N, win0_2.index t = ![t.val, 0] :=
  (by decide +kernel : ∀ t : Fin grid0.N, win0_2.index t = ![t.val, 0])

/-- The row of the arrays that a row of a point's blocks is. -/
def row (t : Fin cfg0.N) (r : Fin 128) : Fin 2048 :=
  ⟨t.val * 128 + r.val, by have h : t.val < 16 := t.isLt; omega⟩

/-- A point's block of logits, at a row and a lane. -/
theorem block_at (c : Dev nD) (t : Fin cfg0.N) (r : Fin 128) (j : Fin (2 ^ 11)) :
    taken m c t (pos r j) = logits m c (ValueIdx.ix2 (row t r) j) := by
  show V m c main_v91 ((win0_0.blk t).view.emb (pos r j)) = V m c main_v91 _
  congr 1
  funext d
  apply Fin.ext
  match d with
  | ⟨0, _⟩ => blk_simp [index_in]; rfl
  | ⟨1, _⟩ => blk_simp [index_in]

/-- A result array's element in a point's block. -/
theorem values_emb (t : Fin cfg0.N) (y : S128x512.Idx) : (win0_1.blk t).view.emb y = ValueIdx.ix2 (row t (y 0)) (y 1) := by
  funext d
  apply Fin.ext
  match d with
  | ⟨0, _⟩ => blk_simp [index_values]; rfl
  | ⟨1, _⟩ => blk_simp [index_values]; rfl

theorem columns_emb (t : Fin cfg0.N) (y : S128x512.Idx) : (win0_2.blk t).view.emb y = ValueIdx.ix2 (row t (y 0)) (y 1) := by
  funext d
  apply Fin.ext
  match d with
  | ⟨0, _⟩ => blk_simp [index_columns]; rfl
  | ⟨1, _⟩ => blk_simp [index_columns]; rfl

/-- The reference's top 512 of each row. -/
abbrev best (L : FVec Ideal SL .f32) (h : SL.Slices (fun _ => 0) ST) : FVec Ideal ST .f32 × IVec ST 32 :=
  Host.topK ST 1 (FloatOps.cmpfTotal (F := Ideal) (φ := .f32) .gt) L h

/-- The kernel's array of values. -/
theorem array_values (c : Dev nD) (h : SL.Slices (fun _ => 0) ST) : (dats m 0 c).arrAt 1 cfg0.N = (best (logits m c) h).1 := by
  refine (dats m 0 c).arrAt_eq_of_covers 1 _ (by decide +kernel) fun t hf y => ?_
  refine Eq.trans (b := (outsAt0 m c t).1 y) ?_ ?_
  · rw [after0_1]; rfl
  · refine (out_values m c t y).trans ?_
    refine ((sorted_eq_topK (logits m c) h _ (y 0) (row t (y 0)) (fun j => block_at m c t (y 0) j) (y 1) (lower (y 1)) rfl).1).trans ?_
    exact congrArg (best (logits m c) h).1 (values_emb t y).symm

/-- The kernel's array of columns. -/
theorem array_columns (c : Dev nD) (h : SL.Slices (fun _ => 0) ST) : (dats m 0 c).arrAt 2 cfg0.N = (best (logits m c) h).2 := by
  refine (dats m 0 c).arrAt_eq_of_covers 2 _ (by decide +kernel) fun t hf y => ?_
  refine Eq.trans (b := (outsAt0 m c t).2 y) ?_ ?_
  · rw [after0_2]; rfl
  · refine (out_columns m c t y).trans ?_
    refine ((sorted_eq_topK (logits m c) h _ (y 0) (row t (y 0)) (fun j => block_at m c t (y 0) j) (y 1) (lower (y 1)) rfl).2).trans ?_
    exact congrArg (best (logits m c) h).2 (columns_emb t y).symm

end Cert.Topk

end
-- ==== Proof.Host.lean ====
/- The logits the kernel reads are the logits of the reference: the two programs compute them by the same host operations of the same
   arguments. -/
module

public import proofs.«01_k».proof.Proof.Blocks
public import proofs.«01_k».proof.Proof.Gen.ReferenceIdeal.Run

@[expose] public section

noncomputable section

namespace Cert.Topk

open Idealize.ShloMosaic Idealize.ShloMosaic.TcCoe Idealize.SL.Sem Idealize.ShloMosaic.StableHlo

open Cert.KernelIdeal Cert.KernelIdeal.Gen in
set_option maxRecDepth 16384 in
set_option maxHeartbeats 40000000 in
/-- The reference's results are the top 512 of the logits the kernel reads, where the arguments agree. -/
theorem reference_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    ∃ (L : FVec Ideal SL .f32) (h : SL.Slices (fun _ => 0) ST), Cert.ReferenceIdeal.Value.res_main_values m' c = (best L h).1 ∧
      Cert.ReferenceIdeal.Value.res_main_indices m' c = (best L h).2 ∧ logits m c = L := by
  refine ⟨_, _, by unfold Cert.ReferenceIdeal.Value.res_main_values; rfl, by unfold Cert.ReferenceIdeal.Value.res_main_indices; rfl, ?_⟩
  rw [h0, h1, h2, h3, h4, h5, h6, h7, h8, h9]
  clear h0 h1 h2 h3 h4 h5 h6 h7 h8 h9
  unfold logits V hostOps0 hostOps0_1 hostOps0_2 hostOps0_3
  obtain ⟨f1, e1⟩ : ∃ f : (⟨S2048x1, .i32⟩ : BufTy).Contents (Elt Ideal) →
      (⟨S2048x1, .i32⟩ : BufTy).Contents (Elt Ideal) → (⟨S2048x2, .i32⟩ : BufTy).Contents (Elt Ideal),
      f = (fun a b => concatenate S2048x2 1 [⟨S2048x1, a⟩, ⟨S2048x1, b⟩] concatenates_S2048x1_S2048x1_S2048x2_d1) := ⟨_, rfl⟩
  obtain ⟨f2, e2⟩ : ∃ f : (⟨S2048x16x32, .f32⟩ : BufTy).Contents (Elt Ideal) →
      (⟨S2048x16x32, .f32⟩ : BufTy).Contents (Elt Ideal) → (⟨S2048x16x64, .f32⟩ : BufTy).Contents (Elt Ideal),
      f = (fun a b => concatenate S2048x16x64 2 [⟨S2048x16x32, a⟩, ⟨S2048x16x32, b⟩] concatenates_S2048x16x32_S2048x16x32_S2048x16x64_d2) := ⟨_, rfl⟩
  obtain ⟨f3, e3⟩ : ∃ f : (⟨S2048x16x64, .f32⟩ : BufTy).Contents (Elt Ideal) →
      (⟨S2048x16x64, .f32⟩ : BufTy).Contents (Elt Ideal) → (⟨S2048x16x128, .f32⟩ : BufTy).Contents (Elt Ideal),
      f = (fun a b => concatenate S2048x16x128 2 [⟨S2048x16x64, a⟩, ⟨S2048x16x64, b⟩] concatenates_S2048x16x64_S2048x16x64_S2048x16x128_d2) := ⟨_, rfl⟩
  obtain ⟨f4, e4⟩ : ∃ f : (⟨S2048x32, .f32⟩ : BufTy).Contents (Elt Ideal) →
      (⟨S2048x32, .f32⟩ : BufTy).Contents (Elt Ideal) → (⟨S2048x64, .f32⟩ : BufTy).Contents (Elt Ideal),
      f = (fun a b => concatenate S2048x64 1 [⟨S2048x32, a⟩, ⟨S2048x32, b⟩] concatenates_S2048x32_S2048x32_S2048x64_d1) := ⟨_, rfl⟩
  obtain ⟨f5, e5⟩ : ∃ f : (⟨S2048x64, .f32⟩ : BufTy).Contents (Elt Ideal) →
      (⟨S2048x64, .f32⟩ : BufTy).Contents (Elt Ideal) → (⟨S2048x128, .f32⟩ : BufTy).Contents (Elt Ideal),
      f = (fun a b => concatenate S2048x128 1 [⟨S2048x64, a⟩, ⟨S2048x64, b⟩] concatenates_S2048x64_S2048x64_S2048x128_d1) := ⟨_, rfl⟩
  rw [← e1, ← e2, ← e3, ← e4, ← e5]
  simp only [List.flatten_cons, List.flatten_nil, List.append_nil, List.cons_append, List.nil_append, TRef.binary, TRef.nullary, TRef.ternary,
    TRef.unary, TRef.toBuf, TRef.ofBuf, cast_eq]
  after_results_simp
  subst e1 e2 e3 e4 e5
  rfl

end Cert.Topk

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Host
public import Idealize.ShloMosaic.Adequacy
public import Idealize.ShloMosaic.Init

@[expose] public section

noncomputable section

namespace Cert.Proof

open Idealize.ShloMosaic Idealize.SL.Sem

/-- The reference program leaves its arguments unchanged and every counter at zero: it declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩)
    (Cert.ReferenceIdeal.Value.run (F := Ideal) m ρ)

open Cert.KernelIdeal Cert.KernelIdeal.Gen in
/-- The kernel's two result arrays are the reference's two results. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_values m' c = (dats m 0 c).arrAt 1 cfg0.N ∧
      Cert.ReferenceIdeal.Value.res_main_indices m' c = (dats m 0 c).arrAt 2 cfg0.N := by
  obtain ⟨L, h, e1, e2, eL⟩ := Cert.Topk.reference_results m m' c h0 h1 h2 h3 h4 h5 h6 h7 h8 h9
  subst eL
  exact ⟨e1.trans (Cert.Topk.array_values m c h).symm, e2.trans (Cert.Topk.array_columns m c h).symm⟩

/-- From memories that agree on the arguments, both programs end with the same two results. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨_, _, Cert.KernelIdeal.Value.run_blocks m ρ, (θ_run Cert.ReferenceIdeal.defs _ _).mono
    (fun r h c => by
      obtain ⟨h0, h1, h2, h3, h4, h5, h6, h7, h8, h9⟩ := hag c
      obtain ⟨e1, e2⟩ := results_agree m m' c h0 h1 h2 h3 h4 h5 h6 h7 h8 h9
      obtain ⟨r1, r2, rest⟩ := h c
      exact ⟨r1.trans e1, r2.trans e2, rest⟩)
    (Cert.ReferenceIdeal.Value.run (F := Ideal) m' ρ')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
